-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  IdealRules.bf16_pair.Statement Cert.KernelIdeal.S256x512 Cert.KernelIdeal.S128x512
  ∧ IdealRules.bf16_pack.Statement Cert.KernelIdeal.S128x512

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v29) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S64x1x16384 : Shape := ⟨3, ![64, 1, 16384]⟩
abbrev S8192x6656 : Shape := ⟨2, ![8192, 6656]⟩
abbrev S128x6656 : Shape := ⟨2, ![128, 6656]⟩
abbrev S64x16384 : Shape := ⟨2, ![64, 16384]⟩
abbrev S64x6656 : Shape := ⟨2, ![64, 6656]⟩
abbrev S8192x512 : Shape := ⟨2, ![8192, 512]⟩
abbrev S128x512 : Shape := ⟨2, ![128, 512]⟩
abbrev S64x512 : Shape := ⟨2, ![64, 512]⟩
abbrev S64x64x256 : Shape := ⟨3, ![64, 64, 256]⟩
abbrev S256x256 : Shape := ⟨2, ![256, 256]⟩
abbrev S64x128 : Shape := ⟨2, ![64, 128]⟩
abbrev S64x256 : Shape := ⟨2, ![64, 256]⟩
abbrev S1x64x256 : Shape := ⟨3, ![1, 64, 256]⟩
abbrev S256x512 : Shape := ⟨2, ![256, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S64x1x16384, .bf16⟩
  | .hbm, ⟨1, _⟩ => ⟨S8192x6656, .i8⟩
  | .hbm, ⟨2, _⟩ => ⟨S128x6656, .bf16⟩
  | .hbm, ⟨3, _⟩ => ⟨S64x16384, .bf16⟩
  | .hbm, ⟨4, _⟩ => ⟨S64x6656, .bf16⟩
  | .local _ .vmem, ⟨0, _⟩ => ⟨S64x16384, .bf16⟩
  | .local _ .vmem, ⟨1, _⟩ => ⟨S8192x512, .i8⟩
  | .local _ .vmem, ⟨2, _⟩ => ⟨S8192x512, .i8⟩
  | .local _ .vmem, ⟨3, _⟩ => ⟨S128x512, .bf16⟩
  | .local _ .vmem, ⟨4, _⟩ => ⟨S128x512, .bf16⟩
  | .local _ .vmem, ⟨5, _⟩ => ⟨S64x512, .bf16⟩
  | .local _ .vmem, ⟨6, _⟩ => ⟨S64x512, .bf16⟩
  | .local _ .vmem, ⟨7, _⟩ => ⟨S64x64x256, .bf16⟩
  | _, _ => ⟨S64x1x16384, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_scratch0 : Ref sig .tc := ⟨.vmem, 7, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [BitOps F]

abbrev grid0 : Pipeline.Grid := ⟨1, ![13], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 1 → Memref sig .tc .vmem S64x16384 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S8192x512 .i8 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S128x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S64x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]
-- ==== KernelIdeal.lean ====
variable {F : FTy → Type} [FloatOps F]
-- ==== ReferenceIdeal.lean ====
abbrev S64x1x16384 : Shape := ⟨3, ![64, 1, 16384]⟩
abbrev S8192x6656 : Shape := ⟨2, ![8192, 6656]⟩
abbrev S128x6656 : Shape := ⟨2, ![128, 6656]⟩
abbrev S_ : Shape := ⟨0, ![]⟩
abbrev S64x6656 : Shape := ⟨2, ![64, 6656]⟩
abbrev S64x128x6656 : Shape := ⟨3, ![64, 128, 6656]⟩
abbrev S64x1x6656 : Shape := ⟨3, ![64, 1, 6656]⟩
abbrev S64x1x8192 : Shape := ⟨3, ![64, 1, 8192]⟩

abbrev nBuf : Space → Nat
  | .hbm => 37
  | .vmem => 0
  | .smem => 0
  | _ => 0

abbrev bufTy : (tb : Table) → Fin (tcTables nBuf tb) → BufTy
  | .hbm, ⟨0, _⟩ => ⟨S64x1x16384, .bf16⟩
  | .hbm, ⟨1, _⟩ => ⟨S8192x6656, .i8⟩
  | .hbm, ⟨2, _⟩ => ⟨S128x6656, .bf16⟩
  | .hbm, ⟨3, _⟩ => ⟨S8192x6656, .i32⟩
  | .hbm, ⟨4, _⟩ => ⟨S_, .i32⟩
  | .hbm, ⟨5, _⟩ => ⟨S8192x6656, .i32⟩
  | .hbm, ⟨6, _⟩ => ⟨S8192x6656, .i32⟩
  | .hbm, ⟨7, _⟩ => ⟨S64x6656, .bf16⟩
  | .hbm, ⟨8, _⟩ => ⟨S8192x6656, .bf16⟩
  | .hbm, ⟨9, _⟩ => ⟨S_, .bf16⟩
  | .hbm, ⟨10, _⟩ => ⟨S8192x6656, .bf16⟩
  | .hbm, ⟨11, _⟩ => ⟨S8192x6656, .bf16⟩
  | .hbm, ⟨12, _⟩ => ⟨S64x128x6656, .bf16⟩
  | .hbm, ⟨13, _⟩ => ⟨S64x1x6656, .bf16⟩
  | .hbm, ⟨14, _⟩ => ⟨S64x128x6656, .bf16⟩
  | .hbm, ⟨15, _⟩ => ⟨S64x128x6656, .bf16⟩
  | .hbm, ⟨16, _⟩ => ⟨S8192x6656, .bf16⟩
  | .hbm, ⟨17, _⟩ => ⟨S_, .i32⟩
  | .hbm, ⟨18, _⟩ => ⟨S8192x6656, .i32⟩
  | .hbm, ⟨19, _⟩ => ⟨S8192x6656, .i32⟩
  | .hbm, ⟨20, _⟩ => ⟨S64x6656, .bf16⟩
  | .hbm, ⟨21, _⟩ => ⟨S8192x6656, .bf16⟩
  | .hbm, ⟨22, _⟩ => ⟨S_, .bf16⟩
  | .hbm, ⟨23, _⟩ => ⟨S8192x6656, .bf16⟩
  | .hbm, ⟨24, _⟩ => ⟨S8192x6656, .bf16⟩
  | .hbm, ⟨25, _⟩ => ⟨S64x128x6656, .bf16⟩
  | .hbm, ⟨26, _⟩ => ⟨S64x1x6656, .bf16⟩
  | .hbm, ⟨27, _⟩ => ⟨S64x128x6656, .bf16⟩
  | .hbm, ⟨28, _⟩ => ⟨S64x128x6656, .bf16⟩
  | .hbm, ⟨29, _⟩ => ⟨S8192x6656, .bf16⟩
  | .hbm, ⟨30, _⟩ => ⟨S64x1x8192, .bf16⟩
  | .hbm, ⟨31, _⟩ => ⟨S64x1x6656, .f32⟩
  | .hbm, ⟨32, _⟩ => ⟨S64x1x8192, .bf16⟩
  | .hbm, ⟨33, _⟩ => ⟨S64x1x6656, .f32⟩
  | .hbm, ⟨34, _⟩ => ⟨S64x1x6656, .f32⟩
  | .hbm, ⟨35, _⟩ => ⟨S64x1x6656, .bf16⟩
  | .hbm, ⟨36, _⟩ => ⟨S64x6656, .bf16⟩
  | _, _ => ⟨S64x1x16384, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_c : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_c_0 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_cst_1 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_v28 : Ref sig .tc := ⟨.hbm, 35, rfl⟩
abbrev main_v29 : Ref sig .tc := ⟨.hbm, 36, rfl⟩

abbrev nD : Nat := 1
abbrev τ : Topo := Topo.v7x

variable {F : FTy → Type} [FloatOps F]
-- ==== Proof.Body.lean ====
/- The kernel's grid point as one function of its blocks, for any float values: the 64 unrolled groups as a recursion over
   the group, the re-laid activations the first point leaves in the scratch, and the result array in terms of both. -/
module

public import proofs.«01_k».proof.Proof.Gen.KernelIdeal.Value
public import Idealize.ShloMosaic.Lib.WholeRead
public import Idealize.ShloMosaic.Lib.Pipeline.ReadBack
public import Idealize.ShloMosaic.Lib.Tactic

@[expose] public section

set_option maxRecDepth 16384

noncomputable section

namespace Cert.KernelIdeal.Body

open Cert.KernelIdeal Cert.KernelIdeal.Gen Idealize.ShloMosaic Idealize.ShloMosaic.TcCoe Idealize.SL.Sem

variable {F : FTy → Type} [FloatOps F]

/-! ## The operations of one group, once for all groups -/

/-- One group's weight codes, 128 bytes by 512 columns, as 256 rows of signed integers in bf16: byte row `r` holds
    row `2r` in its low four bits and row `2r + 1` in its high four, each offset by 8. -/
def ints (w : Vec F S128x512 .i8) : FVec F S256x512 .bf16 :=
  have u : IVec S128x512 32 := extui 32 (xori w (broadcast S128x512 136#8)) natLt_8_32
  have lo : IVec S128x512 32 := andi (shrsi (shli u (broadcast S128x512 28#32)) (broadcast S128x512 28#32)) (broadcast S128x512 65535#32)
  have hi : IVec S128x512 32 := shli (shrsi (shli u (broadcast S128x512 24#32)) (broadcast S128x512 28#32)) (broadcast S128x512 16#32)
  sitofp .bf16 (bitcast S256x512 16 (ori lo hi) bitcasts_S128x512_w32_S256x512_w16)

/-- Row `g` of a 64-row table lies in it. -/
theorem slices_row (g : ℕ) (hg : g < 64) : S64x512.Slices ![g, 0] S1x512 :=
  ⟨rfl, fun a => match a with
    | ⟨0, _⟩ => (show g + 1 ≤ 64 by omega)
    | ⟨1, _⟩ => (show 0 + 512 ≤ 512 by omega)⟩

/-- Row `g` of a table of scales, repeated over 128 rows. -/
def scaleRow (v : FVec F S64x512 .f32) (g : ℕ) (hg : g < 64) : FVec F S128x512 .f32 :=
  broadcastTo S128x512 (shapeCast S1x512 (extractStridedSlice S1x512 ![g, 0] v (slices_row g hg)) shapeCasts_S1x512_S1x512)
    broadcasts_S1x512_S128x512

/-- The scales of group `g`'s 256 rows: the low half's scale on even rows, the high half's on odd rows. -/
def scales (lo hi : FVec F S64x512 .f32) (g : ℕ) (hg : g < 64) : FVec F S256x512 .bf16 :=
  interleaveRows S256x512 (truncf .bf16 (scaleRow lo g hg)) (truncf .bf16 (scaleRow hi g hg)) bitcasts_S256x512_w16_S128x512_w32

/-- The running sum after the first `n` groups. -/
def accOf (lo hi : FVec F S64x512 .f32) (w : (g : ℕ) → g < 64 → Vec F S128x512 .i8)
    (xp : (g : ℕ) → g < 64 → Vec F S1x64x256 .bf16) : (n : ℕ) → n ≤ 64 → FVec F S64x512 .f32
  | 0, _ => broadcast S64x512 (Scalar.ofBits .f32 0x00000000#32)
  | n + 1, h => addf (accOf lo hi w xp n (Nat.le_of_succ_le h))
      (matmul dot_S64x256_S256x512_S64x512_1_0_0_1_n_n none (shapeCast S64x256 (xp n h) shapeCasts_S1x64x256_S64x256)
        (mulf (ints (w n h)) (scales lo hi n h)) (constant S64x512 .f32 0x00000000#32))

/-- The rows of the packed weights that group `g` reads lie in the block. -/
theorem inb_codes (g : ℕ) (hg : g < 64) : ∀ a, (![128 * g, 0] : Fin S8192x512.rank → ℕ) a + S128x512.size a ≤ S8192x512.size a
  | ⟨0, _⟩ => (show 128 * g + 128 ≤ 8192 by omega)
  | ⟨1, _⟩ => (show 0 + 512 ≤ 512 by omega)

/-- The group's slice of the activations lies in the scratch. -/
theorem inb_xp (g : ℕ) (hg : g < 64) : ∀ a, (![g, 0, 0] : Fin S64x64x256.rank → ℕ) a + S1x64x256.size a ≤ S64x64x256.size a
  | ⟨0, _⟩ => (show g + 1 ≤ 64 by omega)
  | ⟨1, _⟩ => (show 0 + 64 ≤ 64 by omega)
  | ⟨2, _⟩ => (show 0 + 256 ≤ 256 by omega)

/-- Group `g`'s packed weights. -/
abbrev rCodes (g : ℕ) (hg : g < 64) : Rect S8192x512 := Rect.unit ![128 * g, 0] S128x512.size (inb_codes g hg)
/-- Group `g`'s activations. -/
abbrev rXp (g : ℕ) (hg : g < 64) : Rect S64x64x256 := Rect.unit ![g, 0, 0] S1x64x256.size (inb_xp g hg)

section
variable (c : Dev nD) (i : grid0.Coords) (arg1 : Memref sig .tc .vmem S64x16384 .bf16) (harg1 : arg1.IsWhole)
  (arg2 : Memref sig .tc .vmem S8192x512 .i8) (harg2 : arg2.IsWhole) (arg3 : Memref sig .tc .vmem S128x512 .bf16) (harg3 : arg3.IsWhole)
  (arg4 : Memref sig .tc .vmem S64x512 .bf16) (harg4 : arg4.IsWhole) (arg5 : Memref sig .tc .vmem S64x64x256 .bf16) (harg5 : arg5.IsWhole)
  (x0 : Vec F S64x16384 .bf16) (x1 : Vec F S8192x512 .i8) (x2 : Vec F S128x512 .bf16) (xs0 : Vec F S64x64x256 .bf16)

/-- What a grid point stores into its output block: the sum over the 64 groups, rounded, as a function of the packed
    weights' block, the scales' block and the scratch's contents. -/
def blockOut (x1 : Vec F S8192x512 .i8) (x2 : Vec F S128x512 .bf16) (xs : Vec F S64x64x256 .bf16) : FVec F S64x512 .bf16 :=
  truncf .bf16
    (accOf (extf .f32 (View.ld x2 (Rect.unit ![0, 0] S64x512.size inb_S128x512_S64x512_0_0)) bitsLt_bf16_f32)
      (extf .f32 (View.ld x2 (Rect.unit ![64, 0] S64x512.size inb_S128x512_S64x512_64_0)) bitsLt_bf16_f32)
      (fun g hg => View.ld x1 (rCodes g hg)) (fun g hg => View.ld xs (rXp g hg)) 64 le_rfl)
    bitsLt_bf16_f32

/-- THE OUTPUT BLOCK at a point after the first: over the scratch the point before left. -/
theorem out_B (hc0 : ¬cond0_0 i) :
    out0_B_3 c i arg1 harg1 arg2 harg2 arg3 harg3 arg4 harg4 arg5 harg5 hc0 x0 x1 x2 xs0 = blockOut x1 x2 xs0 := by
  have e : out0_B_3 c i arg1 harg1 arg2 harg2 arg3 harg3 arg4 harg4 arg5 harg5 hc0 x0 x1 x2 xs0 =
      truncf .bf16
        (accOf (extf .f32 (View.ld (arg3.view.read (Elt F) (harg3.unread x2)) (Rect.unit ![0, 0] S64x512.size inb_S128x512_S64x512_0_0)) bitsLt_bf16_f32)
          (extf .f32 (View.ld (arg3.view.read (Elt F) (harg3.unread x2)) (Rect.unit ![64, 0] S64x512.size inb_S128x512_S64x512_64_0)) bitsLt_bf16_f32)
          (fun g hg => View.ld (arg2.view.read (Elt F) (harg2.unread x1)) (rCodes g hg))
          (fun g hg => View.ld (arg5.view.read (Elt F) (harg5.unread xs0)) (rXp g hg)) 64 le_rfl)
        bitsLt_bf16_f32 := by
    unfold out0_B_3 kernelRun0_B
    dsimp only
    rw [View.read_writes_junk_eq_canon]
    refine (View.canon_unit_zero (by funext a; match a with | ⟨0, _⟩ => rfl | ⟨1, _⟩ => rfl) _ _).trans ?_
    rfl
  rw [e, harg3.read_unread, harg2.read_unread, harg5.read_unread]
  rfl

/-! ## The activations, re-laid once at the first point -/

/-- Columns `128 g … 128 g + 127` of the activations lie in them. -/
theorem inb_lo (g : ℕ) (hg : g < 64) : ∀ a, (![0, 128 * g] : Fin S64x16384.rank → ℕ) a + S64x128.size a ≤ S64x16384.size a
  | ⟨0, _⟩ => (show 0 + 64 ≤ 64 by omega)
  | ⟨1, _⟩ => (show 128 * g + 128 ≤ 16384 by omega)

/-- So do the same columns of the second half. -/
theorem inb_hi (g : ℕ) (hg : g < 64) : ∀ a, (![0, 128 * g + 8192] : Fin S64x16384.rank → ℕ) a + S64x128.size a ≤ S64x16384.size a
  | ⟨0, _⟩ => (show 0 + 64 ≤ 64 by omega)
  | ⟨1, _⟩ => (show 128 * g + 8192 + 128 ≤ 16384 by omega)

/-- What the first point stores for group `g`: 128 columns of each half of the activations side by side, times the
    permutation matrix. -/
def relaid (x : Vec F S64x16384 .bf16) (g : ℕ) (hg : g < 64) : FVec F S1x64x256 .bf16 :=
  k0_pay81 k0_pay2 (View.ld x (Rect.unit ![0, 128 * g] S64x128.size (inb_lo g hg)))
    (View.ld x (Rect.unit ![0, 128 * g + 8192] S64x128.size (inb_hi g hg)))

/-- The stores for the first `n` groups, last first. -/
def relaidPieces (x : Vec F S64x16384 .bf16) : (n : ℕ) → n ≤ 64 → List (View.Piece (Elt F) S64x64x256 .bf16)
  | 0, _ => []
  | n + 1, h => ⟨rXp n h, relaid x n h⟩ :: relaidPieces x n (Nat.le_of_succ_le h)

/-- The scratch after the first point: slice `g` is what was stored for group `g`. -/
def scratch (x : Vec F S64x16384 .bf16) : Vec F S64x64x256 .bf16 :=
  fun j => relaid x (j 0).val (j 0).isLt (fun a => match a with
    | ⟨0, _⟩ => (⟨0, Nat.one_pos⟩ : Fin 1)
    | ⟨1, _⟩ => (j 1 : Fin 64)
    | ⟨2, _⟩ => (j 2 : Fin 256))

/-- A store for group `g` is slice `g` of the scratch. -/
theorem relaid_eq_scratch (x : Vec F S64x16384 .bf16) (g : ℕ) (hg : g < 64) (y : S1x64x256.Idx) :
    relaid x g hg y = scratch x ((rXp g hg).emb y) := by
  have h0 : (y 0).val = 0 := Nat.lt_one_iff.mp (y 0).isLt
  have key : ∀ (g' : ℕ) (hg' : g' < 64) (z : S1x64x256.Idx), g' = g → z = y → relaid x g hg y = relaid x g' hg' z := by
    intro g' hg' z e e'; subst e; subst e'; rfl
  refine key _ _ _ ?_ ?_
  · show g + 1 * (y 0).val = g
    omega
  · funext a
    match a with
    | ⟨0, _⟩ => exact Fin.ext h0.symm
    | ⟨1, _⟩ => exact Fin.ext (show 0 + 1 * (y 1).val = (y 1).val by omega)
    | ⟨2, _⟩ => exact Fin.ext (show 0 + 1 * (y 2).val = (y 2).val by omega)

/-- So all the stores are slices of the scratch. -/
theorem piecesOf_relaidPieces (x : Vec F S64x16384 .bf16) : ∀ (n : ℕ) (h : n ≤ 64), View.PiecesOf (scratch x) (relaidPieces x n h)
  | 0, _ => trivial
  | n + 1, h => ⟨relaid_eq_scratch x n h, piecesOf_relaidPieces x n (Nat.le_of_succ_le h)⟩

/-- The pieces the first point's run found for the scratch are the 64 groups' stores. -/
theorem pieces_A (hc0 : cond0_0 i) :
    (kernelRun0_A c i arg1 harg1 arg2 harg2 arg3 harg3 arg4 harg4 arg5 harg5 hc0 x0 x1 x2).2.1 = relaidPieces x0 64 le_rfl := by
  have e : (kernelRun0_A c i arg1 harg1 arg2 harg2 arg3 harg3 arg4 harg4 arg5 harg5 hc0 x0 x1 x2).2.1
      = relaidPieces (arg1.view.read (Elt F) (harg1.unread x0)) 64 le_rfl := by
    unfold kernelRun0_A
    dsimp only
    rfl
  rw [e, harg1.read_unread]

/-- THE SCRATCH after the first point. -/
theorem sout_A (hc0 : cond0_0 i) :
    sout0_A_0 c i arg1 harg1 arg2 harg2 arg3 harg3 arg4 harg4 arg5 harg5 hc0 x0 x1 x2 = scratch x0 := by
  unfold sout0_A_0
  rw [View.read_writes_junk_eq_canon]
  funext y
  have hc := scover0_A_0 c i arg1 harg1 arg2 harg2 arg3 harg3 arg4 harg4 arg5 harg5 hc0 x0 x1 x2 y
  rw [pieces_A] at hc ⊢
  have h := View.canon_append_of_piecesOf (scratch x0) [] _ (piecesOf_relaidPieces x0 64 le_rfl) y hc
  rwa [List.append_nil] at h

/-- THE OUTPUT BLOCK at the first point: the same function of the same blocks, over the scratch the point itself filled. -/
theorem out_A (hc0 : cond0_0 i) :
    out0_A_3 c i arg1 harg1 arg2 harg2 arg3 harg3 arg4 harg4 arg5 harg5 hc0 x0 x1 x2 = blockOut x1 x2 (scratch x0) := by
  have e : out0_A_3 c i arg1 harg1 arg2 harg2 arg3 harg3 arg4 harg4 arg5 harg5 hc0 x0 x1 x2 =
      truncf .bf16
        (accOf (extf .f32 (View.ld (arg3.view.read (Elt F) (harg3.unread x2)) (Rect.unit ![0, 0] S64x512.size inb_S128x512_S64x512_0_0)) bitsLt_bf16_f32)
          (extf .f32 (View.ld (arg3.view.read (Elt F) (harg3.unread x2)) (Rect.unit ![64, 0] S64x512.size inb_S128x512_S64x512_64_0)) bitsLt_bf16_f32)
          (fun g hg => View.ld (arg2.view.read (Elt F) (harg2.unread x1)) (rCodes g hg))
          (fun g hg => arg5.view.readCov (kernelRun0_A c i arg1 harg1 arg2 harg2 arg3 harg3 arg4 harg4 arg5 harg5 hc0 x0 x1 x2).2.1
            (rXp g hg).toLoadRect) 64 le_rfl)
        bitsLt_bf16_f32 := by
    unfold out0_A_3 kernelRun0_A
    dsimp only
    rw [View.read_writes_junk_eq_canon]
    refine (View.canon_unit_zero (by funext a; match a with | ⟨0, _⟩ => rfl | ⟨1, _⟩ => rfl) _ _).trans ?_
    rfl
  have hs : View.canon (kernelRun0_A c i arg1 harg1 arg2 harg2 arg3 harg3 arg4 harg4 arg5 harg5 hc0 x0 x1 x2).2.1 = scratch x0 := by
    rw [← sout_A c i arg1 harg1 arg2 harg2 arg3 harg3 arg4 harg4 arg5 harg5 x0 x1 x2 hc0]
    unfold sout0_A_0
    rw [View.read_writes_junk_eq_canon]
  rw [e, harg3.read_unread, harg2.read_unread]
  simp only [View.readCov_eq_canon']
  rw [hs]
  rfl

end

/-! ## After each grid point -/

section
variable (m : (ℓ : Loc nD τ sig) → Buf (Elt F) ℓ)

/-- What every point leaves: its own output block, and in the scratch the activations re-laid at the first point. -/
theorem outsAt_eq (c : Dev nD) (hN : 0 < cfg0.N) : ∀ (n : ℕ) (hn : n < cfg0.N),
    outsAt0 m c n hn = (blockOut (iblk m c 1 ⟨n, hn⟩) (iblk m c 2 ⟨n, hn⟩) (scratch (iblk m c 0 ⟨0, hN⟩)), scratch (iblk m c 0 ⟨0, hN⟩))
  | 0, hn => by
    rw [outsAt0_A m c ⟨0, hn⟩ (Nat.zero_mod _), out_A, sout_A]
  | n + 1, hn => by
    have h0 : ¬(n + 1) % 13 = 0 := by
      have h : n + 1 < 13 := lt_of_lt_of_eq hn N_0
      omega
    have ih := outsAt_eq c hN n (Nat.lt_of_succ_lt hn)
    rw [outsAt0_B m c ⟨n + 1, hn⟩ h0, out_B]
    unfold sout0_B_0
    simp only [Nat.add_sub_cancel]
    rw [ih]

/-- THE RESULT ARRAY at an index: the output block of the point that owns the index's column, at the index's place in it. -/
theorem G3_eq (c : Dev nD) (hN : 0 < cfg0.N) (i : S64x6656.Idx) (ht : (i 1).val / 512 < cfg0.N) :
    Value.G3 m c i = blockOut (iblk m c 1 ⟨(i 1).val / 512, ht⟩) (iblk m c 2 ⟨(i 1).val / 512, ht⟩) (scratch (iblk m c 0 ⟨0, hN⟩))
      (Value.loc3Of i) := by
  have hp : Value.pt3Of i = (i 1).val / 512 := by
    have h0 : (i 0).val < 64 := (i 0).isLt
    show 13 * ((i 0).val / 64 - 0) + 1 * ((i 1).val / 512 - 0) = _
    omega
  unfold Value.G3
  rw [dif_pos (by rw [hp]; exact ht), Value.fold0_congr m c _ _ _ (by omega) hp, ← Value.outsAt0_sweep m c _ ht, outsAt_eq m c hN]

end

end Cert.KernelIdeal.Body

end
-- ==== Proof.RefValue.lean ====
/- The reference's result over the extended reals, index by index. -/
module

public import proofs.«01_k».proof.Proof.Gen.ReferenceIdeal.Run
public import Idealize.ShloMosaic.Lib.Pointwise
public import Idealize.ShloMosaic.Lib.IdealHost

@[expose] public section

noncomputable section

namespace Cert.ReferenceIdeal.Body

open Cert.ReferenceIdeal Cert.ReferenceIdeal.Gen Idealize.ShloMosaic Idealize.ShloMosaic.TcCoe Idealize.SL.Sem

/-- The weights of one half: each code less 8, times its group's scale (one scale for 128 consecutive rows). -/
def weights {F : FTy → Type} [FloatOps F] (q : IVec S8192x6656 32) (s : FVec F S64x6656 .bf16) : FVec F S8192x6656 .bf16 :=
  shapeCast _ (mulf (shapeCast _ (subf (sitofp .bf16 q) (broadcastInDim S8192x6656 ![] bcast_S_S8192x6656 (constant S_ .bf16 0x4100#16))) shapeCasts_S8192x6656_S64x128x6656)
    (broadcastInDim S64x128x6656 ![0, 1, 2] bcast_S64x1x6656_S64x128x6656_0_1_2 (broadcastInDim S64x1x6656 ![0, 2] bcast_S64x6656_S64x1x6656_0_2 s))) shapeCasts_S64x128x6656_S8192x6656

/-- The reference's result as a function of its arguments: activations `x`, packed codes `w`, scales `s`. -/
def out {F : FTy → Type} [FloatOps F] (x : FVec F S64x1x16384 .bf16) (w : IVec S8192x6656 8) (s : FVec F S128x6656 .bf16) : FVec F S64x6656 .bf16 :=
  shapeCast _ (truncf .bf16 (addf
    (Host.dotGeneral dot_S64x1x8192_S8192x6656_S64x1x6656_2_0_01_1_n_n none (extractStridedSlice S64x1x8192 ![0, 0, 0] x slices_S64x1x16384_S64x1x8192_0_0_0)
      (weights (andi (extui 32 w natLt_8_32) (broadcastInDim S8192x6656 ![] bcast_S_S8192x6656 (constantI S_ 32 15#32)))
        (extractStridedSlice S64x6656 ![0, 0] s slices_S128x6656_S64x6656_0_0)))
    (Host.dotGeneral dot_S64x1x8192_S8192x6656_S64x1x6656_2_0_01_1_n_n none (extractStridedSlice S64x1x8192 ![0, 0, 8192] x slices_S64x1x16384_S64x1x8192_0_0_8192)
      (weights (Host.shrsi (extui 32 w natLt_8_32) (broadcastInDim S8192x6656 ![] bcast_S_S8192x6656 (constantI S_ 32 4#32)))
        (extractStridedSlice S64x6656 ![64, 0] s slices_S128x6656_S64x6656_64_0)))) bitsLt_bf16_f32) shapeCasts_S64x1x6656_S64x6656

/-- The bf16 pattern `0x4100` is eight. -/
theorem ofBits_eight_bf16 : Ideal.ofBits .bf16 0x4100#16 = ((8 : ℝ) : EReal) := by
  simp [Ideal.ofBits, Ideal.ieee, -EReal.coe_mul]; norm_num

/-- The signed integer a byte holds in its low four bits, stored offset by 8. -/
def lowCode (b : BitVec 8) : ℤ := ((b.toNat % 16 : ℕ) : ℤ) - 8
/-- The signed integer a byte holds in its high four bits, stored offset by 8. -/
def highCode (b : BitVec 8) : ℤ := ((b.toNat / 16 : ℕ) : ℤ) - 8

/-- An integer of bf16 format less 8 is the integer less 8. -/
theorem sitofp_sub_eight (q : BitVec 32) :
    ((FloatOps.sitofp .bf16 q : Ideal .bf16) - Ideal.ofBits .bf16 0x4100#16 : EReal) = (((q.toInt - 8 : ℤ) : ℝ) : EReal) := by
  rw [ofBits_eight_bf16]
  show ((q.toInt : ℝ) : EReal) - ((8 : ℝ) : EReal) = _
  rw [← EReal.coe_sub]
  push_cast
  rfl

/-- A byte masked to its low four bits, less 8, is the integer of its low four bits. -/
theorem low_eq : ∀ b : BitVec 8, (IntOp.andi (b.setWidth 32) 15#32).toInt - 8 = lowCode b := by decide +kernel
/-- A byte shifted right by four, less 8, is the integer of its high four bits. -/
theorem high_eq : ∀ b : BitVec 8, (IntOp.shrsi .host (b.setWidth 32) 4#32).toInt - 8 = highCode b := by decide +kernel

/-- A half's weight at row `k`: the code less 8, times the scale of group `k / 128`. -/
theorem weights_apply (q : IVec S8192x6656 32) (s : FVec Ideal S64x6656 .bf16) (k : Fin 8192) (n : Fin 6656) :
    weights q s (ix2 k n) = ((((q (ix2 k n)).toInt - 8 : ℤ) : ℝ) : EReal) * s (ix2 ⟨k.val / 128, by omega⟩ n) := by
  pointwise [weights]
  rw [sitofp_sub_eight]

/-- The reference's result at an index: one sum over 8192 rows for each half of the activations. -/
theorem out_apply (x : FVec Ideal S64x1x16384 .bf16) (w : IVec S8192x6656 8) (s : FVec Ideal S128x6656 .bf16) (r : Fin 64) (n : Fin 6656) :
    out x w s (ix2 r n) =
      (∑ k : Fin 8192, x (ix3 r 0 ⟨k.val, by omega⟩) * (((lowCode (w (ix2 k n)) : ℝ) : EReal) * s (ix2 ⟨k.val / 128, by omega⟩ n)))
      + ∑ k : Fin 8192, x (ix3 r 0 ⟨8192 + k.val, by omega⟩) * (((highCode (w (ix2 k n)) : ℝ) : EReal) * s (ix2 ⟨64 + k.val / 128, by omega⟩ n)) := by
  pointwise [out]
  simp only [weights_apply]
  pointwise
  simp only [low_eq, high_eq]

end Cert.ReferenceIdeal.Body
end
-- ==== Proof.Algebra.lean ====
/- The kernel's result over the extended reals, index by index: each group's integers, scales and activations at an
   index, the sum over groups and rows re-blocked into two sums over 8192 rows, the blocks as parts of the arguments,
   and the equality with the reference's result. -/
module

public import proofs.«01_k».proof.Proof.Body
public import proofs.«01_k».proof.Proof.RefValue
public import Idealize.ShloMosaic.Lib.Pointwise
public import Idealize.ShloMosaic.Lib.BitcastPair
public import Idealize.ShloMosaic.Lib.IdealHost

@[expose] public section

set_option maxRecDepth 16384

noncomputable section

namespace Cert.KernelIdeal.Body

open Cert.KernelIdeal Cert.KernelIdeal.Gen Idealize.ShloMosaic Idealize.ShloMosaic.TcCoe Idealize.SL.Sem
open Cert.ReferenceIdeal.Body (lowCode highCode)

/-- The 32-bit word the kernel makes of one byte: the integer of its low four bits in the low half, that of its high four
    bits in the high half. -/
def word (b : BitVec 8) : BitVec 32 :=
  IntOp.ori (IntOp.andi (IntOp.shrsi .vector (IntOp.shli .vector ((IntOp.xori b 136#8).setWidth 32) 28#32) 28#32) 65535#32)
    (IntOp.shli .vector (IntOp.shrsi .vector (IntOp.shli .vector ((IntOp.xori b 136#8).setWidth 32) 24#32) 28#32) 16#32)

/-- The low half of a byte's word, read signed, is the integer of the byte's low four bits. -/
theorem word_lo : ∀ b : BitVec 8, ((word b).extractLsb' 0 16).toInt = lowCode b := by decide +kernel
/-- The high half of a byte's word, read signed, is the integer of the byte's high four bits. -/
theorem word_hi : ∀ b : BitVec 8, ((word b).extractLsb' 16 16).toInt = highCode b := by decide +kernel

/-- Row `r` of the sixteen-bit rows comes from row `r / 2` of the words. -/
theorem src_eq (r : Fin 256) (n : Fin 512) (hp) :
    bitcasts_S128x512_w32_S256x512_w16.srcIdx (ix2 r n) (r.val / 2) hp = (ix2 ⟨r.val / 2, by omega⟩ n : S128x512.Idx) := by
  funext a
  match a with
  | ⟨0, _⟩ => rfl
  | ⟨1, _⟩ => rfl

/-- Row `r` of a group's integers is the low half of word `r / 2` for even `r`, its high half for odd `r`. -/
theorem ints_apply (w : Vec Ideal S128x512 .i8) (r : Fin 256) (n : Fin 512) : ints (F := Ideal) w (ix2 r n) =
  ((((word (w (ix2 ⟨r.val / 2, by omega⟩ n))).extractLsb' (16 * (r.val % 2)) 16).toInt : ℝ) : EReal) := by
  pointwise [ints]
  rw [bitcast_32_16]
  pointwise
  exact congrArg (fun j => ((((word (w j)).extractLsb' (16 * (r.val % 2)) 16).toInt : ℝ) : EReal)) (src_eq r n _)

/-- An even row of a group's integers holds the low four bits' integers. -/
theorem ints_even (w : Vec Ideal S128x512 .i8) (p : Fin 128) (n : Fin 512) :
    ints (F := Ideal) w (ix2 ⟨2 * p.val, by omega⟩ n) = ((lowCode (w (ix2 p n)) : ℝ) : EReal) := by
  rw [ints_apply, ← word_lo]
  congr 5
  · exact congrArg (16 * ·) (show 2 * p.val % 2 = 0 by omega)
  · exact congrArg (fun q => w (ix2 q n)) (Fin.ext (show 2 * p.val / 2 = p.val by omega))

/-- An odd row of a group's integers holds the high four bits' integers. -/
theorem ints_odd (w : Vec Ideal S128x512 .i8) (p : Fin 128) (n : Fin 512) :
    ints (F := Ideal) w (ix2 ⟨2 * p.val + 1, by omega⟩ n) = ((highCode (w (ix2 p n)) : ℝ) : EReal) := by
  rw [ints_apply, ← word_hi]
  congr 5
  · exact congrArg (16 * ·) (show (2 * p.val + 1) % 2 = 1 by omega)
  · exact congrArg (fun q => w (ix2 q n)) (Fin.ext (show (2 * p.val + 1) / 2 = p.val by omega))

/-- The row of the permutation matrix that holds column `k`'s one: `k / 2` for even `k`, `128 + k / 2` for odd `k`. -/
theorem row_eq : ∀ k : Fin 256, IntOp.addi (IntOp.shrsi .vector (BitVec.ofNat 32 k.val) 1#32)
    (IntOp.muli (IntOp.andi (BitVec.ofNat 32 k.val) 1#32) 128#32) = BitVec.ofNat 32 (k.val / 2 + 128 * (k.val % 2)) := by
  decide +kernel

/-- The entry of the permutation matrix at row `p`, column `k` keeps a value or makes it zero, as `p` is the column's row or not. -/
theorem select_row (k : Fin 256) (p : ℕ) (hp : p < 256) (y : EReal) :
    Scalar.select (IntOp.cmpi .eq (BitVec.ofNat 32 p) (IntOp.addi (IntOp.shrsi .vector (BitVec.ofNat 32 k.val) 1#32)
      (IntOp.muli (IntOp.andi (BitVec.ofNat 32 k.val) 1#32) 128#32))) y 0 = if p = k.val / 2 + 128 * (k.val % 2) then y else 0 := by
  rw [row_eq]
  have hk := k.isLt
  have hq : k.val / 2 + 128 * (k.val % 2) < 256 := by omega
  generalize k.val / 2 + 128 * (k.val % 2) = q at hq
  by_cases h : p = q
  · subst h
    simp [IntOp.cmpi, Scalar.select]
  · have hne : BitVec.ofNat 32 p ≠ BitVec.ofNat 32 q := fun e => h (by
      have := congrArg BitVec.toNat e
      rwa [BitVec.toNat_ofNat, BitVec.toNat_ofNat, Nat.mod_eq_of_lt (by omega), Nat.mod_eq_of_lt (by omega)] at this)
    have e : IntOp.cmpi .eq (BitVec.ofNat 32 p) (BitVec.ofNat 32 q) = 0#1 := by
      show BitVec.ofBool (BitVec.ofNat 32 p == BitVec.ofNat 32 q) = 0#1
      rw [beq_false_of_ne hne]
      rfl
    rw [if_neg h, e]
    rfl

/-- The product with the permutation matrix, as a sum over the rows of each half. -/
theorem relaid_apply (x : Vec Ideal S64x16384 .bf16) (g : ℕ) (hg : g < 64) (m : Fin 64) (k : Fin 256) :
    relaid x g hg (ix3 0 m k) =
      (∑ p : Fin 128, if p.val = k.val / 2 + 128 * (k.val % 2) then (x (ix2 m ⟨128 * g + p.val, by omega⟩) : EReal) else 0)
      + ∑ p : Fin 128, if 128 + p.val = k.val / 2 + 128 * (k.val % 2) then (x (ix2 m ⟨128 * g + 8192 + p.val, by omega⟩) : EReal) else 0 := by
  pointwise [relaid, k0_pay81, k0_pay2]
  exact congrArg₂ (· + ·) (Finset.sum_congr rfl fun p _ => select_row k p.val (by omega) _)
    (Finset.sum_congr rfl fun p _ => select_row k (128 + p.val) (by omega) _)

/-- Column `2p` of group `g`'s activations is column `128 g + p` of the first half. -/
theorem relaid_even (x : Vec Ideal S64x16384 .bf16) (g : ℕ) (hg : g < 64) (m : Fin 64) (p : Fin 128) :
    relaid x g hg (ix3 0 m ⟨2 * p.val, by omega⟩) = x (ix2 m ⟨128 * g + p.val, by omega⟩) := by
  rw [relaid_apply, Finset.sum_eq_single p, Finset.sum_eq_zero, if_pos (show p.val = 2 * p.val / 2 + 128 * (2 * p.val % 2) by omega), add_zero]
  · exact fun q _ => if_neg (show ¬128 + q.val = 2 * p.val / 2 + 128 * (2 * p.val % 2) by omega)
  · exact fun q _ hq => if_neg (fun e => hq (Fin.ext (show q.val = p.val by
      have : q.val = 2 * p.val / 2 + 128 * (2 * p.val % 2) := e
      omega)))
  · exact fun h => absurd (Finset.mem_univ p) h

/-- Column `2p + 1` of group `g`'s activations is column `128 g + p` of the second half. -/
theorem relaid_odd (x : Vec Ideal S64x16384 .bf16) (g : ℕ) (hg : g < 64) (m : Fin 64) (p : Fin 128) :
    relaid x g hg (ix3 0 m ⟨2 * p.val + 1, by omega⟩) = x (ix2 m ⟨128 * g + 8192 + p.val, by omega⟩) := by
  rw [relaid_apply, Finset.sum_eq_zero, Finset.sum_eq_single p,
    if_pos (show 128 + p.val = (2 * p.val + 1) / 2 + 128 * ((2 * p.val + 1) % 2) by omega), zero_add]
  · exact fun q _ hq => if_neg (fun e => hq (Fin.ext (show q.val = p.val by
      have : 128 + q.val = (2 * p.val + 1) / 2 + 128 * ((2 * p.val + 1) % 2) := e
      omega)))
  · exact fun h => absurd (Finset.mem_univ p) h
  · exact fun q _ => if_neg (show ¬q.val = (2 * p.val + 1) / 2 + 128 * ((2 * p.val + 1) % 2) by omega)

/-- An even row's scale is the first half's for group `g`. -/
theorem scales_even (lo hi : FVec Ideal S64x512 .f32) (g : ℕ) (hg : g < 64) (p : Fin 128) (n : Fin 512) :
    scales lo hi g hg (ix2 ⟨2 * p.val, by omega⟩ n) = lo (ix2 ⟨g, hg⟩ n) := by
  pointwise [scales, scaleRow]
  rw [if_pos (show 2 * p.val % 2 = 0 by omega)]

/-- An odd row's scale is the second half's for group `g`. -/
theorem scales_odd (lo hi : FVec Ideal S64x512 .f32) (g : ℕ) (hg : g < 64) (p : Fin 128) (n : Fin 512) :
    scales lo hi g hg (ix2 ⟨2 * p.val + 1, by omega⟩ n) = hi (ix2 ⟨g, hg⟩ n) := by
  pointwise [scales, scaleRow]
  rw [if_neg (show ¬(2 * p.val + 1) % 2 = 0 by omega)]

/-- A sum over 256 rows, the even and odd rows paired. -/
theorem sum_parity (f : Fin 256 → EReal) :
    ∑ k : Fin 256, f k = ∑ p : Fin 128, (f ⟨2 * p.val, by omega⟩ + f ⟨2 * p.val + 1, by omega⟩) := by
  rw [Fin.sum_univ_tiles 128 2 (show 128 * 2 = 256 from rfl)]
  refine Finset.sum_congr rfl fun p _ => ?_
  rw [Fin.sum_univ_two]
  exact congrArg₂ (· + ·) (congrArg f (Fin.ext (show p.val * 2 + 0 = 2 * p.val by omega)))
    (congrArg f (Fin.ext (show p.val * 2 + 1 = 2 * p.val + 1 by omega)))

/-- The contribution of group `g`. -/
def groupSum (lo hi : FVec Ideal S64x512 .f32) (w : Vec Ideal S128x512 .i8) (xp : Vec Ideal S1x64x256 .bf16)
    (g : ℕ) (hg : g < 64) (r : Fin 64) (l : Fin 512) : EReal :=
  ∑ p : Fin 128, (xp (ix3 0 r ⟨2 * p.val, by omega⟩) * (((lowCode (w (ix2 p l)) : ℝ) : EReal) * lo (ix2 ⟨g, hg⟩ l))
    + xp (ix3 0 r ⟨2 * p.val + 1, by omega⟩) * (((highCode (w (ix2 p l)) : ℝ) : EReal) * hi (ix2 ⟨g, hg⟩ l)))

/-- One more group adds that group's contribution to the running sum. -/
theorem accOf_succ (lo hi : FVec Ideal S64x512 .f32) (w : (g : ℕ) → g < 64 → Vec Ideal S128x512 .i8)
    (xp : (g : ℕ) → g < 64 → Vec Ideal S1x64x256 .bf16) (n : ℕ) (h : n + 1 ≤ 64) (r : Fin 64) (l : Fin 512) :
    accOf lo hi w xp (n + 1) h (ix2 r l) =
      (accOf lo hi w xp n (Nat.le_of_succ_le h) (ix2 r l) : EReal) + groupSum lo hi (w n h) (xp n h) n h r l := by
  conv_lhs => unfold accOf
  pointwise
  rw [sum_parity]
  simp only [ints_even, ints_odd, scales_even, scales_odd]
  rfl

/-- The running sum after `n` groups is the sum of their contributions. -/
theorem accOf_eq (lo hi : FVec Ideal S64x512 .f32) (w : (g : ℕ) → g < 64 → Vec Ideal S128x512 .i8)
    (xp : (g : ℕ) → g < 64 → Vec Ideal S1x64x256 .bf16) (r : Fin 64) (l : Fin 512) : ∀ (n : ℕ) (h : n ≤ 64),
    accOf lo hi w xp n h (ix2 r l) =
      ∑ g : Fin n, groupSum lo hi (w g.val (by omega)) (xp g.val (by omega)) g.val (by omega) r l
  | 0, _ => by
    unfold accOf
    pointwise
    simp
  | n + 1, h => by
    rw [accOf_succ, accOf_eq lo hi w xp r l n (Nat.le_of_succ_le h), Fin.sum_univ_castSucc]
    rfl

/-- What a grid point stores, at an index: one sum over 8192 rows for each half of the activations. -/
theorem blockOut_apply (x : Vec Ideal S64x16384 .bf16) (x1 : Vec Ideal S8192x512 .i8) (x2 : Vec Ideal S128x512 .bf16) (r : Fin 64) (l : Fin 512) :
    blockOut x1 x2 (scratch x) (ix2 r l) =
      (∑ k : Fin 8192, x (ix2 r ⟨k.val, by omega⟩) * (((lowCode (x1 (ix2 k l)) : ℝ) : EReal) * x2 (ix2 ⟨k.val / 128, by omega⟩ l)))
      + ∑ k : Fin 8192, x (ix2 r ⟨8192 + k.val, by omega⟩) * (((highCode (x1 (ix2 k l)) : ℝ) : EReal) * x2 (ix2 ⟨64 + k.val / 128, by omega⟩ l)) := by
  have hx : ∀ (g : ℕ) (hg : g < 64), View.ld (scratch x) (rXp g hg) = relaid x g hg := fun g hg => funext fun y => (relaid_eq_scratch x g hg y).symm
  rw [Fin.sum_univ_tiles 64 128 (show 64 * 128 = 8192 from rfl), Fin.sum_univ_tiles 64 128 (show 64 * 128 = 8192 from rfl), ← Finset.sum_add_distrib]
  simp only [← Finset.sum_add_distrib]
  pointwise [blockOut]
  rw [accOf_eq]
  refine Finset.sum_congr rfl fun g _ => ?_
  unfold groupSum
  refine Finset.sum_congr rfl fun p _ => ?_
  rw [hx, relaid_even, relaid_odd]
  pointwise
  simp only [show 128 * g.val + p.val = g.val * 128 + p.val by omega,
    show 128 * g.val + 8192 + p.val = 8192 + (g.val * 128 + p.val) by omega, show (g.val * 128 + p.val) / 128 = g.val by omega]

section
variable (m : (ℓ : Loc nD τ sig) → Buf (Elt Ideal) ℓ) (c : Dev nD)

/-- The region finds the activations with their middle axis, of size one, dropped. -/
theorem V_main_v0 : V m c main_v0 = shapeCast S64x16384 (m ((c : Thread nD τ).loc main_arg0)) shapeCasts_S64x1x16384_S64x16384 := by
  show StableHlo.after hostOps0 (fun b => m (c, b)) main_v0 = _
  rfl

/-- Dropping the middle axis, of size one, keeps the other two coordinates. -/
theorem drop_axis (x : Vec Ideal S64x1x16384 .bf16) (r : Fin 64) (k : Fin 16384) :
    shapeCast S64x16384 x shapeCasts_S64x1x16384_S64x16384 (ix2 r k) = x (ix3 r 0 k) := by
  pointwise

/-- The block indices of the three inputs' windows, decided over the grid: the activations' block never moves, the
    others' moves one block of columns a point. -/
theorem idx_facts : ∀ t : Fin cfg0.N, (win0_0.index t (0 : Fin 2) = 0 ∧ win0_0.index t (1 : Fin 2) = 0)
    ∧ (win0_1.index t (0 : Fin 2) = 0 ∧ win0_1.index t (1 : Fin 2) = t.val)
    ∧ win0_2.index t (0 : Fin 2) = 0 ∧ win0_2.index t (1 : Fin 2) = t.val :=
  (by decide +kernel : ∀ t : Fin grid0.N, _)

/-- The activations' block is the whole array, at every point. -/
theorem iblk0_apply (t : Fin cfg0.N) (r : Fin 64) (k : Fin 16384) :
    iblk m c 0 t (ix2 r k) = m ((c : Thread nD τ).loc main_arg0) (ix3 r 0 k) := by
  obtain ⟨⟨e0, e1⟩, -, -⟩ := idx_facts t
  have e : ((cfg0.win 0).blk t).view.emb (ix2 r k) = (ix2 r k : S64x16384.Idx) := by
    funext a
    apply Fin.ext
    match a with
    | ⟨0, _⟩ => show win0_0.index t (0 : Fin 2) * 64 + 1 * r.val = r.val; omega
    | ⟨1, _⟩ => show win0_0.index t (1 : Fin 2) * 16384 + 1 * k.val = k.val; omega
  show V m c main_v0 (((cfg0.win 0).blk t).view.emb (ix2 r k)) = _
  rw [e, V_main_v0]
  exact drop_axis _ r k

/-- The packed codes' block at point `t` is columns `512 t … 512 t + 511`. -/
theorem iblk1_apply (t : Fin cfg0.N) (k : Fin 8192) (l : Fin 512) (n : Fin 6656) (hn : n.val = t.val * 512 + l.val) :
    iblk m c 1 t (ix2 k l) = m ((c : Thread nD τ).loc main_arg1) (ix2 k n) := by
  obtain ⟨-, ⟨e0, e1⟩, -⟩ := idx_facts t
  have e : ((cfg0.win 1).blk t).view.emb (ix2 k l) = (ix2 k n : S8192x6656.Idx) := by
    funext a
    apply Fin.ext
    match a with
    | ⟨0, _⟩ => show win0_1.index t (0 : Fin 2) * 8192 + 1 * k.val = k.val; omega
    | ⟨1, _⟩ => show win0_1.index t (1 : Fin 2) * 512 + 1 * l.val = n.val; omega
  show V m c main_arg1 (((cfg0.win 1).blk t).view.emb (ix2 k l)) = _
  rw [e, V_main_arg1]

/-- The scales' block at point `t` is columns `512 t … 512 t + 511`. -/
theorem iblk2_apply (t : Fin cfg0.N) (k : Fin 128) (l : Fin 512) (n : Fin 6656) (hn : n.val = t.val * 512 + l.val) :
    iblk m c 2 t (ix2 k l) = m ((c : Thread nD τ).loc main_arg2) (ix2 k n) := by
  obtain ⟨-, -, e0, e1⟩ := idx_facts t
  have e : ((cfg0.win 2).blk t).view.emb (ix2 k l) = (ix2 k n : S128x6656.Idx) := by
    funext a
    apply Fin.ext
    match a with
    | ⟨0, _⟩ => show win0_2.index t (0 : Fin 2) * 128 + 1 * k.val = k.val; omega
    | ⟨1, _⟩ => show win0_2.index t (1 : Fin 2) * 512 + 1 * l.val = n.val; omega
  show V m c main_arg2 (((cfg0.win 2).blk t).view.emb (ix2 k l)) = _
  rw [e, V_main_arg2]

/-- THE VALUE: the array the kernel leaves is the reference's function of the three arguments. -/
theorem G3_eq_out : Value.G3 m c = Cert.ReferenceIdeal.Body.out (F := Ideal) (m ((c : Thread nD τ).loc main_arg0))
    (m ((c : Thread nD τ).loc main_arg1)) (m ((c : Thread nD τ).loc main_arg2)) := by
  funext i
  obtain ⟨r, n, rfl⟩ : ∃ (r : Fin 64) (n : Fin 6656), i = (ix2 r n : S64x6656.Idx) :=
    ⟨i 0, i 1, funext fun a => match a with | ⟨0, _⟩ => rfl | ⟨1, _⟩ => rfl⟩
  have ht : n.val / 512 < cfg0.N := lt_of_lt_of_eq (show n.val / 512 < 13 by omega) N_0.symm
  have hl : Value.loc3Of (ix2 r n) = (ix2 r ⟨n.val % 512, by omega⟩ : S64x512.Idx) := by
    funext a
    apply Fin.ext
    match a with
    | ⟨0, _⟩ => show r.val % 64 = r.val; omega
    | ⟨1, _⟩ => rfl
  have hn : n.val = n.val / 512 * 512 + n.val % 512 := by omega
  have h : Value.G3 m c (ix2 r n) = blockOut (iblk m c 1 ⟨n.val / 512, ht⟩) (iblk m c 2 ⟨n.val / 512, ht⟩)
      (scratch (iblk m c 0 ⟨0, lt_of_lt_of_eq (by omega) N_0.symm⟩)) (ix2 r ⟨n.val % 512, by omega⟩) :=
    (G3_eq m c (lt_of_lt_of_eq (by omega) N_0.symm) (ix2 r n) ht).trans (congrArg _ hl)
  rw [h, blockOut_apply, Cert.ReferenceIdeal.Body.out_apply]
  refine congrArg₂ (· + ·) (Finset.sum_congr rfl fun k _ => ?_) (Finset.sum_congr rfl fun k _ => ?_)
  · rw [iblk0_apply, iblk1_apply m c ⟨n.val / 512, ht⟩ k _ n hn, iblk2_apply m c ⟨n.val / 512, ht⟩ _ _ n hn]
  · rw [iblk0_apply, iblk1_apply m c ⟨n.val / 512, ht⟩ k _ n hn, iblk2_apply m c ⟨n.val / 512, ht⟩ _ _ n hn]

end

end Cert.KernelIdeal.Body
end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Body
public import proofs.«01_k».proof.Proof.RefValue
public import proofs.«01_k».proof.Proof.Algebra
public import Idealize.ShloMosaic.Adequacy
public import Idealize.ShloMosaic.Init
public import Idealize.ShloMosaic.Lib.Quiescent
public import Idealize.ShloMosaic.Lib.Bf16Pair

@[expose] public section

noncomputable section

namespace Cert.Proof

open Idealize.ShloMosaic Idealize.SL.Sem

/-- The kernel as printed terminates without a fault from any memory, leaves its arguments unchanged, and every
    semaphore counter ends at zero. -/
theorem frame_P : Cert.quiescent_Kernel (hKernel := Cert.Kernel.Gen.facts) :=
  fun m ρ _ => Cert.Kernel.Gen.frame m ρ

/-- So does the idealized kernel. -/
theorem frame_PI : Cert.quiescent_KernelIdeal (hKernelIdeal := Cert.KernelIdeal.Gen.facts) :=
  fun m ρ _ => Cert.KernelIdeal.Gen.frame m ρ

/-- So does the idealized reference, which has no semaphore. -/
theorem frame_RI : Cert.quiescent_ReferenceIdeal (hReferenceIdeal := Cert.ReferenceIdeal.Gen.facts) :=
  fun m ρ _ => (θ_run _ _ _).mono (fun r h => ⟨fun c => (h c).2, sem_eq_zero_of_no_sems (by decide) r.2⟩)
    (Cert.ReferenceIdeal.Value.run m ρ)

/-- The rewritings that take the kernel to its idealization hold. -/
theorem preserves : Cert.preserves_Kernel_KernelIdeal :=
  ⟨IdealRules.bf16_pair.statement Cert.KernelIdeal.S256x512 Cert.KernelIdeal.S128x512,
    IdealRules.bf16_pack.statement Cert.KernelIdeal.S128x512⟩

/-- From memories that agree on the arguments the idealized kernel and the idealized reference end with equal results. -/
theorem algebraic : Cert.algebraic_KernelIdeal_ReferenceIdeal (hKernelIdeal := Cert.KernelIdeal.Gen.facts)
    (hReferenceIdeal := Cert.ReferenceIdeal.Gen.facts) := by
  intro m g m' g' _ hag
  refine ⟨fun c => Cert.KernelIdeal.Value.G3 m c, Cert.KernelIdeal.Value.run m g,
    (θ_run _ _ _).mono (fun r h c => ⟨(h c).1.trans ?_, (h c).2⟩) (Cert.ReferenceIdeal.Value.run m' g')⟩
  obtain ⟨e0, e1, e2⟩ := hag c
  refine Eq.trans ?_ (Cert.KernelIdeal.Body.G3_eq_out m c).symm
  rw [← e0, ← e1, ← e2]
  rfl

/-- Every claim of this certificate. -/
theorem claim : Cert.Claim :=
  ⟨Cert.Kernel.Gen.facts, Cert.KernelIdeal.Gen.facts, Cert.ReferenceIdeal.Gen.facts, frame_P, frame_PI, frame_RI, preserves, algebraic⟩

end Cert.Proof

end
